-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024x96 : Shape := ⟨3, ![256, 1024, 96]⟩
abbrev S1024x96 : Shape := ⟨2, ![1024, 96]⟩
abbrev S256x98304 : Shape := ⟨2, ![256, 98304]⟩
abbrev S1x98304 : Shape := ⟨2, ![1, 98304]⟩
abbrev S16x98304 : Shape := ⟨2, ![16, 98304]⟩

abbrev nBuf : Space → Nat
  | .hbm => 6
  | .vmem => 5
  | .smem => 0
  | _ => 0

abbrev bufTy : (tb : Table) → Fin (tcTables nBuf tb) → BufTy
  | .hbm, ⟨0, _⟩ => ⟨S256x1024x96, .f32⟩
  | .hbm, ⟨1, _⟩ => ⟨S1024x96, .f32⟩
  | .hbm, ⟨2, _⟩ => ⟨S256x98304, .f32⟩
  | .hbm, ⟨3, _⟩ => ⟨S1x98304, .f32⟩
  | .hbm, ⟨4, _⟩ => ⟨S256x98304, .f32⟩
  | .hbm, ⟨5, _⟩ => ⟨S256x1024x96, .f32⟩
  | .local _ .vmem, ⟨0, _⟩ => ⟨S16x98304, .f32⟩
  | .local _ .vmem, ⟨1, _⟩ => ⟨S16x98304, .f32⟩
  | .local _ .vmem, ⟨2, _⟩ => ⟨S1x98304, .f32⟩
  | .local _ .vmem, ⟨3, _⟩ => ⟨S16x98304, .f32⟩
  | .local _ .vmem, ⟨4, _⟩ => ⟨S16x98304, .f32⟩
  | _, _ => ⟨S256x1024x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x98304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x98304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x98304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S256x1024x96 : Shape := ⟨3, ![256, 1024, 96]⟩
abbrev S1024x96 : Shape := ⟨2, ![1024, 96]⟩
abbrev S1024 : Shape := ⟨1, ![1024]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1x1024x96 : Shape := ⟨3, ![1, 1024, 96]⟩

abbrev nBuf : Space → Nat
  | .hbm => 29
  | .vmem => 0
  | .smem => 0
  | _ => 0

abbrev bufTy : (tb : Table) → Fin (tcTables nBuf tb) → BufTy
  | .hbm, ⟨0, _⟩ => ⟨S256x1024x96, .f32⟩
  | .hbm, ⟨1, _⟩ => ⟨S1024x96, .f32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S1, .i32⟩
  | .hbm, ⟨12, _⟩ => ⟨S_, .i32⟩
  | .hbm, ⟨13, _⟩ => ⟨S1024x1, .i32⟩
  | .hbm, ⟨14, _⟩ => ⟨S1024x1, .i1⟩
  | .hbm, ⟨15, _⟩ => ⟨S1x1, .i32⟩
  | .hbm, ⟨16, _⟩ => ⟨S1024x1, .i32⟩
  | .hbm, ⟨17, _⟩ => ⟨S1024x1, .i1⟩
  | .hbm, ⟨18, _⟩ => ⟨S1024x1, .i1⟩
  | .hbm, ⟨19, _⟩ => ⟨S_, .i1⟩
  | .hbm, ⟨20, _⟩ => ⟨S1024, .i1⟩
  | .hbm, ⟨21, _⟩ => ⟨S1024x96, .f32⟩
  | .hbm, ⟨22, _⟩ => ⟨S1024x96, .i1⟩
  | .hbm, ⟨23, _⟩ => ⟨S_, .f32⟩
  | .hbm, ⟨24, _⟩ => ⟨S1024x96, .f32⟩
  | .hbm, ⟨25, _⟩ => ⟨S1024x96, .f32⟩
  | .hbm, ⟨26, _⟩ => ⟨S1x1024x96, .f32⟩
  | .hbm, ⟨27, _⟩ => ⟨S256x1024x96, .f32⟩
  | .hbm, ⟨28, _⟩ => ⟨S256x1024x96, .f32⟩
  | _, _ => ⟨S256x1024x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.KernelValue.lean ====
/- The kernel's result. The kernel adds the flattened table, one row of 98304 numbers, to every row of the flattened
   first argument, 16 rows at a time; the lines around it only reshape. Read at `(b, p, d)` the result is the first
   argument's entry there plus the table's entry `(p, d)`. -/
module

public import proofs.«01_k».proof.Proof.Gen.KernelIdeal.Frame
public import Idealize.ShloMosaic.Lib.Pipeline.Value
public import Idealize.ShloMosaic.Lib.ValueIdxCore

@[expose] public section

set_option maxRecDepth 16384

noncomputable section

namespace Cert.KernelIdeal.AddRow

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat)

variable {F : FTy → Type} [FloatOps F]
variable (m : (ℓ : Loc nD τ sig) → Buf (Elt F) ℓ) (ρ : Dev nD → PrngReg)

/-- The first argument of device `c`, flattened: one row per batch entry. -/
abbrev rows (c : Dev nD) : (⟨S256x98304, .f32⟩ : BufTy).Contents (Elt F) :=
  shapeCast S256x98304 (m ((c : Thread nD τ).loc main_arg0)) shapeCasts_S256x1024x96_S256x98304

/-- The table of device `c`, flattened to one row. -/
abbrev tableRow (c : Dev nD) : (⟨S1x98304, .f32⟩ : BufTy).Contents (Elt F) :=
  shapeCast S1x98304 (m ((c : Thread nD τ).loc main_arg1)) shapeCasts_S1024x96_S1x98304

/-- The flat array the kernel is shown to compute: the table's row added to every row. -/
def flatSum (c : Dev nD) : (⟨S256x98304, .f32⟩ : BufTy).Contents (Elt F) :=
  fun i => FloatOps.addf (rows m c i) (tableRow m c (ix2 (0 : Fin 1) (i 1)))

/-- When the kernel starts its first operand is the flattened first argument, -/
theorem V_rows (c : Dev nD) : V m c main_v0 = rows m c := by
  dsimp only [V, V0, hostOps0, List.flatten_cons, List.flatten_nil, List.append_nil, List.cons_append, List.nil_append]
  after_results
  rfl

/-- and its second operand the flattened table. -/
theorem V_tableRow (c : Dev nD) : V m c main_v1 = tableRow m c := by
  dsimp only [V, V0, hostOps0, List.flatten_cons, List.flatten_nil, List.append_nil, List.cons_append, List.nil_append]
  after_results
  rfl

/-- Both offsets of a whole-block access are zero. -/
theorem offsets_zero : (![0, 0] : Fin 2 → Nat) = fun _ => 0 := funext fun a => by fin_cases a <;> rfl

/-- The block the body stores, at an index: the operand block's entry plus the table row's entry of that column. -/
theorem stored_apply (x : Vec F S16x98304 .f32) (r : Vec F S1x98304 .f32) (y : S16x98304.Idx) :
    out0_2 x r y = FloatOps.addf (x y) (r (ix2 (0 : Fin 1) (y 1))) := by
  unfold out0_2
  rw [View.canon_unit_zero offsets_zero, View.ld_unit_zero offsets_zero, View.ld_unit_zero offsets_zero]
  unfold k0_pay1
  rw [shapeCast_self, shapeCast_self]
  show FloatOps.addf (x y) (broadcastTo S16x98304 r broadcasts_S1x98304_S16x98304 y) = _
  rw [broadcastTo_apply r broadcasts_S1x98304_S16x98304 y (ix2 (0 : Fin 1) (y 1)) (fun a => match a with
    | ⟨0, _⟩ => by show 0 = if (1 : Nat) = 1 then 0 else (y 0).val; rw [if_pos rfl]
    | ⟨1, _⟩ => by show (y 1).val = if (98304 : Nat) = 1 then 0 else (y 1).val; rw [if_neg (by decide)])]

/-- The table row's block is the table row at every point. -/
theorem index_tableRow (t : Fin cfg0.N) (a : Fin 2) : win0_1.index t a = 0 := by
  match a with
  | ⟨0, _⟩ => rfl
  | ⟨1, _⟩ => rfl

/-- What point `t` writes back is block `t` of the flat array. -/
theorem flushed_eq (c : Dev nD) (t : Fin cfg0.N) :
    (dats m 0 c).flushed 2 t = (win0_2.blk t).view.read (Elt F) (flatSum m c) := by
  show (cfg0.win 2).cut (grid0.coords t) ((dats m 0 c).after 2 t) = _
  rw [after0_2]
  funext y
  have hy : (win0_1.rect t).emb (ix2 (0 : Fin 1) (y 1)) = ix2 (0 : Fin 1) ((win0_2.rect t).emb y 1) :=
    Shape.idx_ext₂
      (win0_1.rect_emb_val_of_index_zero t 0 (index_tableRow t 0) _)
      ((win0_1.rect_emb_val_of_index_zero t 1 (index_tableRow t 1) _).trans
        (win0_2.rect_emb_val_of_index_zero t 1 rfl y).symm)
  have h0 : iblk m c 0 t y = rows m c ((win0_2.rect t).emb y) := by
    show V m c main_v0 ((win0_0.rect t).emb y) = _
    rw [V_rows]
    rfl
  have h1 : iblk m c 1 t (ix2 (0 : Fin 1) (y 1)) = tableRow m c (ix2 (0 : Fin 1) ((win0_2.rect t).emb y 1)) := by
    show V m c main_v1 ((win0_1.rect t).emb (ix2 (0 : Fin 1) (y 1))) = _
    rw [V_tableRow, hy]
    rfl
  refine (stored_apply (iblk m c 0 t) (iblk m c 1 t) y).trans ?_
  rw [h0, h1]
  rfl

/-- An index of the flat array is in point `t`'s block when its row is one of the block's 16 rows. -/
theorem mem_blk (t : Fin cfg0.N) (i : S256x98304.Idx) (h : t.val * 16 ≤ (i 0 : Nat) ∧ (i 0 : Nat) < t.val * 16 + 16) :
    i ∈ ((cfg0.win 2).blk t).view.set := by
  show i ∈ ((View.whole main_v2).slice (win0_2.rect t)).set
  rw [View.set_slice_whole, Rect.mem_set_unit]
  have h1 : (i 1 : Nat) < 98304 := (i 1).isLt
  have e : win0_2.index t 0 = t.val := by
    rcases fin_N0 t with rfl | rfl | rfl | rfl | rfl | rfl | rfl | rfl | rfl | rfl | rfl | rfl | rfl | rfl | rfl | rfl <;>
      decide +kernel
  intro a
  match a with
  | ⟨0, _⟩ =>
    show win0_2.index t 0 * 16 ≤ (i 0 : Nat) ∧ (i 0 : Nat) < win0_2.index t 0 * 16 + 16
    rw [e]
    exact h
  | ⟨1, _⟩ =>
    show win0_2.index t 1 * 98304 ≤ (i 1 : Nat) ∧ (i 1 : Nat) < win0_2.index t 1 * 98304 + 98304
    rw [show win0_2.index t 1 = 0 from rfl, Nat.zero_mul, Nat.zero_add]
    exact ⟨Nat.zero_le _, h1⟩

/-- The 16 blocks tile the flat array: row `r` is in block `r / 16`. -/
theorem cover (i : S256x98304.Idx) : ∃ t : Fin cfg0.N, (cfg0.win 2).flush t = true ∧ i ∈ ((cfg0.win 2).blk t).view.set := by
  have h0 : (i 0 : Nat) < 256 := (i 0).isLt
  have hN : cfg0.N = 16 := N_0
  exact ⟨⟨(i 0 : Nat) / 16, by omega⟩, flush0_2 _, mem_blk _ i (by constructor <;> dsimp only <;> omega)⟩

/-- The kernel's output array ends at the flat array. -/
theorem final (c : Dev nD) : (dats m 0 c).arrAt 2 cfg0.N = flatSum m c :=
  Dat.arrAt_eq_of_cover (dats m 0 c) 2 (flatSum m c) (fun t _ => flushed_eq m c t) cover

/-- The program's result array: the flat array, reshaped back. -/
def result (c : Dev nD) : (⟨S256x1024x96, .f32⟩ : BufTy).Contents (Elt F) :=
  shapeCast S256x1024x96 (flatSum m c) shapeCasts_S256x98304_S256x1024x96

/-- What the line after the kernel leaves in the result array. -/
theorem tail_eq (c : Dev nD) : Pipeline.afterTail₀ cfgs (dats m) 0 (V0 m) [hostOps1] c main_v3 = result m c := by
  unfold Pipeline.afterTail₀
  dsimp only [hostOps1, List.flatten_cons, List.flatten_nil, List.append_nil, List.cons_append, List.nil_append]
  after_results
  have h := Pipeline.withArrays_arr spec0 launch0.win.arr_inj c (V0 m c) (fun w => (dats m 0 c).arrAt w cfg0.N) 2
  exact congrArg (fun x => shapeCast S256x1024x96 x shapeCasts_S256x98304_S256x1024x96) (h.trans (final m c))

/-- THE RUN: every execution ends with the result array at `result` and both arguments unchanged. -/
theorem run : θ_run defs (onTc (τ := τ) (main (F := F))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

/-- The flat column of position `p`, coordinate `d`. -/
def column (p : Fin 1024) (d : Fin 96) : Fin 98304 := ⟨p.val * 96 + d.val, by omega⟩

/-- THE KERNEL'S RESULT at `(b, p, d)` is the first argument's entry there plus the table's entry `(p, d)`. -/
theorem result_apply (c : Dev nD) (i : S256x1024x96.Idx) :
    result m c i = FloatOps.addf (m ((c : Thread nD τ).loc main_arg0) i)
      (m ((c : Thread nD τ).loc main_arg1) (ix2 (i 1) (i 2))) := by
  have hp : (i 1 : Nat) < 1024 := (i 1).isLt
  have hd : (i 2 : Nat) < 96 := (i 2).isLt
  have hk : (S256x98304.rowMajor (ix2 (i 0) (column (i 1) (i 2)))).val = (S256x1024x96.rowMajor i).val := by
    rw [Shape.rowMajor_val_two, Shape.rowMajor_val_three]
    show (i 0 : Nat) * 98304 + ((i 1 : Nat) * 96 + (i 2 : Nat)) = ((i 0 : Nat) * 1024 + (i 1 : Nat)) * 96 + (i 2 : Nat)
    omega
  have ht : (S1024x96.rowMajor (ix2 (i 1) (i 2))).val = (S1x98304.rowMajor (ix2 (0 : Fin 1) (column (i 1) (i 2)))).val := by
    rw [Shape.rowMajor_val_two, Shape.rowMajor_val_two]
    show (i 1 : Nat) * 96 + (i 2 : Nat) = 0 * 98304 + ((i 1 : Nat) * 96 + (i 2 : Nat))
    omega
  refine (shapeCast_apply (flatSum m c) shapeCasts_S256x98304_S256x1024x96 i _ hk).trans ?_
  exact congrArg₂ FloatOps.addf
    (shapeCast_apply (m ((c : Thread nD τ).loc main_arg0)) shapeCasts_S256x1024x96_S256x98304 _ i hk.symm)
    (shapeCast_apply (m ((c : Thread nD τ).loc main_arg1)) shapeCasts_S1024x96_S1x98304 _ _ ht)

end Cert.KernelIdeal.AddRow

end
-- ==== Proof.ReferenceValue.lean ====
/- The reference's result at an index. The reference looks the positions 0 … 1023 up in the table, row by row, and adds
   the row found to every batch entry. Position `p` is a row number of the table, so the look-up finds row `p` itself,
   and none of the out-of-range replacement values is taken. -/
module

public import proofs.«01_k».proof.Proof.Gen.ReferenceIdeal.Read
public import Idealize.ShloMosaic.Lib.Routing.Ops
public import Idealize.ShloMosaic.Lib.ReduceAll

@[expose] public section

noncomputable section

namespace Cert.ReferenceIdeal.AddRow

open Cert.ReferenceIdeal Cert.ReferenceIdeal.Gen Cert.ReferenceIdeal.Read
open Idealize.ShloMosaic Idealize.ShloMosaic.ValueIdx Idealize.ShloMosaic.StableHlo.Predicate

variable {F : FTy → Type} [FloatOps F]

/-- No position is below zero, so the position with negatives wrapped round is the position itself. -/
theorem position_eq (i : S1024.Idx) : val_main_call0_v4 (F := F) i = BitVec.ofNat 32 (i 0).val := by
  have hi : (i 0).val < 1024 := (i 0).isLt
  rw [val_main_call0_v4_apply, val_main_call0_v1_apply, val_main_call0_v0_apply, val_main_call0_c_apply, val_main_v0_apply]
  have hn : ¬ IntOp.cmpi .slt (BitVec.ofNat 32 (i 0).val) 0#32 = 1#1 := fun h => by
    have := (slt_ofNat_iff (i 0).val 0 (by omega) (by decide)).1 h
    omega
  exact if_neg hn

/-- The table row asked for at `(p, 0)` is row `p`. -/
theorem row_eq (i : S1024x1.Idx) : val_main_call0_v5 (F := F) i = BitVec.ofNat 32 (i 0).val := by
  rw [val_main_call0_v5_apply, position_eq]

/-- Every row asked for lies in the table: it is at least 0 and at most 1023. -/
theorem inside_eq (i : S1024x1.Idx) : val_main_call0_v11 (F := F) i = 1#1 := by
  have hi : (i 0).val < 1024 := (i 0).isLt
  rw [val_main_call0_v11_apply, val_main_call0_v7_apply, val_main_call0_v10_apply, row_eq, val_main_call0_v6_apply,
    val_main_call0_c_2_apply, val_main_call0_v9_apply, val_main_call0_v8_apply, val_main_call0_c_1_apply]
  have hge : IntOp.cmpi .sge (BitVec.ofNat 32 (i 0).val) 0#32 = 1#1 :=
    (sle_ofNat_iff 0 (i 0).val (by decide) (by omega)).2 (Nat.zero_le _)
  have hle : IntOp.cmpi .sle (BitVec.ofNat 32 (i 0).val) 1023#32 = 1#1 :=
    (sle_ofNat_iff (i 0).val 1023 (by omega) (by decide)).2 (by omega)
  rw [hge, hle]
  rfl

/-- So no row of the look-up is masked out. -/
theorem mask_eq (j : S1024.Idx) : val_main_call0_v12 (F := F) j = 1#1 := by
  unfold val_main_call0_v12
  exact Host.reduce_andi_one _ _ _ _ j rfl inside_eq

/-- The look-up reads the table's entry `(p, d)` at `(p, d)`. -/
theorem gathered_eq (x1 : (⟨S1024x96, .f32⟩ : BufTy).Contents (Elt F)) (p : Fin 1024) (d : Fin 96) :
    val_main_call0_v13 (F := F) x1 (ix2 p d) = x1 (ix2 p d) :=
  Routing.gather_row gather_S1024x96_S1024x1_S1024x96_1_0_n_n_0_1_196 rfl rfl rfl rfl rfl x1 _ p d p
    (row_eq (ix2 p (0 : Fin 1))) (by decide)

/-- The looked-up table is the table. -/
theorem taken_eq (x1 : (⟨S1024x96, .f32⟩ : BufTy).Contents (Elt F)) (p : Fin 1024) (d : Fin 96) :
    val_main_v1 (F := F) x1 (ix2 p d) = x1 (ix2 p d) := by
  rw [val_main_v1_apply, val_main_call0_v14_apply, mask_eq, gathered_eq]
  rfl

/-- THE REFERENCE'S RESULT at `(b, p, d)` is the first argument's entry there plus the table's entry `(p, d)`. -/
theorem result_apply (x0 : (⟨S256x1024x96, .f32⟩ : BufTy).Contents (Elt F))
    (x1 : (⟨S1024x96, .f32⟩ : BufTy).Contents (Elt F)) (i : S256x1024x96.Idx) :
    val_main_v4 (F := F) x0 x1 i = FloatOps.addf (x0 i) (x1 (ix2 (i 1) (i 2))) := by
  rw [val_main_v4_apply, val_main_v3_apply, val_main_v2_apply, ← taken_eq x1 (i 1) (i 2)]
  congr 2
  funext a
  match a with
  | ⟨0, _⟩ => rfl
  | ⟨1, _⟩ => rfl

end Cert.ReferenceIdeal.AddRow

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.ReferenceIdeal.Run
public import proofs.«01_k».proof.Proof.KernelValue
public import proofs.«01_k».proof.Proof.ReferenceValue
public import Idealize.ShloMosaic.Adequacy
public import Idealize.ShloMosaic.Init
public import Idealize.ShloMosaic.Lib.Quiescent

@[expose] public section

noncomputable section

namespace Cert.Proof

open Idealize.ShloMosaic Idealize.SL.Sem

/-- The kernel, its floats words, terminates with its arguments unchanged and every counter at zero. -/
theorem frame_kernel : Cert.quiescent_Kernel := fun m ρ _ => Cert.Kernel.Gen.frame m ρ

/-- So does the kernel on the extended reals, -/
theorem frame_kernelIdeal : Cert.quiescent_KernelIdeal := fun m ρ _ => Cert.KernelIdeal.Gen.frame m ρ

/-- and the reference on the extended reals, which has no counter. -/
theorem frame_referenceIdeal : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- On the extended reals, from equal arguments, the kernel's result array and the reference's end equal: both read, at
    `(b, p, d)`, the first argument's entry there plus the table's entry `(p, d)`. -/
theorem algebraic : Cert.algebraic_KernelIdeal_ReferenceIdeal := by
  intro m ρ m' ρ' _ hagree
  refine ⟨fun c => Cert.KernelIdeal.AddRow.result m c, Cert.KernelIdeal.AddRow.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v4_eq _ _).trans (funext fun i => ?_)
  rw [Cert.ReferenceIdeal.AddRow.result_apply, (hagree c).1, (hagree c).2]
  exact (Cert.KernelIdeal.AddRow.result_apply m c i).symm

/-- The five claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
